-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v16) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S32x4096 : Shape := ⟨2, ![32, 4096]⟩
abbrev S32x100000 : Shape := ⟨2, ![32, 100000]⟩
abbrev S32x25600 : Shape := ⟨2, ![32, 25600]⟩

abbrev nBuf : Space → Nat
  | .hbm => 2
  | .vmem => 2
  | .smem => 0
  | _ => 0

abbrev bufTy : (tb : Table) → Fin (tcTables nBuf tb) → BufTy
  | .hbm, ⟨0, _⟩ => ⟨S32x4096, .f32⟩
  | .hbm, ⟨1, _⟩ => ⟨S32x100000, .f32⟩
  | .local _ .vmem, ⟨0, _⟩ => ⟨S32x25600, .f32⟩
  | .local _ .vmem, ⟨1, _⟩ => ⟨S32x25600, .f32⟩
  | _, _ => ⟨S32x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c25600_i32 : BitVec 32 := 25600#32
  let v0 : BitVec 32 := Scalar.muli arg0 c25600_i32
  let c31000_i32 : BitVec 32 := 31000#32
  let v1 : BitVec 1 := Scalar.cmpi .sgt v0 c31000_i32
  let v2 : BitVec 32 := Scalar.extui v1
  let c0_i32 : BitVec 32 := 0#32
  let v3 : BitVec 1 := Scalar.cmpi .ne v2 c0_i32
  v3

def k0_cond2 (i : grid0.Coords) : BitVec 1 :=
  let arg0 : BitVec 32 := BitVec.ofNat 32 (i 0).val
  let c25600_i32_0 : BitVec 32 := 25600#32
  let v4 : BitVec 32 := Scalar.muli arg0 c25600_i32_0
  let c31000_i32_1 : BitVec 32 := 31000#32
  let v5 : BitVec 1 := Scalar.cmpi .sle v4 c31000_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S32x4096 : Shape := ⟨2, ![32, 4096]⟩
abbrev S32 : Shape := ⟨1, ![32]⟩
abbrev S_ : Shape := ⟨0, ![]⟩
abbrev S32x100000 : Shape := ⟨2, ![32, 100000]⟩
abbrev S32x1 : Shape := ⟨2, ![32, 1]⟩
abbrev S32x2 : Shape := ⟨2, ![32, 2]⟩

abbrev nBuf : Space → Nat
  | .hbm => 25
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32, .i32⟩
  | .hbm, ⟨2, _⟩ => ⟨S_, .f32⟩
  | .hbm, ⟨3, _⟩ => ⟨S32x100000, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S32x1, .i32⟩
  | .hbm, ⟨20, _⟩ => ⟨S32x1, .i32⟩
  | .hbm, ⟨21, _⟩ => ⟨S32x2, .i32⟩
  | .hbm, ⟨22, _⟩ => ⟨S_, .f32⟩
  | .hbm, ⟨23, _⟩ => ⟨S32, .f32⟩
  | .hbm, ⟨24, _⟩ => ⟨S32x100000, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Plan.Spec.lean ====
/-
  What kernel and reference both compute: logits that are a fill value everywhere but at one planned column per row.
  Everything here is about plain values: no program, no memory.
-/
module

public import Idealize.ShloMosaic.PureOps.ShapeOps
public import Idealize.ShloMosaic.PureOps.Vector
public import Idealize.ShloMosaic.Lib.WordCmp

@[expose] public section

noncomputable section

namespace Cert.Plan

open Idealize.ShloMosaic

variable {F : FTy → Type} [FloatOps F]

/-- The logits' shape: 32 rows, a vocabulary of 100000. -/
abbrev Logits : Shape := ⟨2, ![32, 100000]⟩

/-- The kernel's block: all 32 rows, 25600 columns. -/
abbrev Block : Shape := ⟨2, ![32, 25600]⟩

/-- The value at a row's planned column: the word of `0.0`. -/
abbrev zeroAt : F .f32 := FloatOps.ofBits .f32 0x00000000#32

/-- The value everywhere else: the word of `-1e9`. -/
abbrev fill : F .f32 := FloatOps.ofBits .f32 0xCE6E6B28#32

/-- The planned logits at row `r`, column `col`: row `r`'s planned column is `1000 * r`. -/
def at_ (r col : Nat) : F .f32 := if col = 1000 * r then zeroAt else fill

/-- The planned logits as a whole array. -/
def logits : FVec F Logits .f32 := fun i => at_ (i 0).val (i 1).val

/-- The 32-bit test that the kernel makes, `column + block start = row * 1000`, is the test on natural numbers: no word
    wraps, as the last column of the last block is below 2³². -/
theorem planned_iff {r x j : Nat} (hr : r < 32) (hx : x < 25600) (hj : j < 4) :
    IntOp.cmpi .eq (IntOp.addi (BitVec.ofNat 32 x) (IntOp.muli (BitVec.ofNat 32 j) 25600#32))
        (IntOp.muli (BitVec.ofNat 32 r) 1000#32) = 1#1 ↔ j * 25600 + x = 1000 * r := by
  rw [WordCmp.cmpi_eq_eq_toNat, WordCmp.ofBool_decide_eq_one_iff]
  simp only [IntOp.addi, IntOp.muli, BitVec.toNat_add, BitVec.toNat_mul, BitVec.toNat_ofNat]
  omega

/-- A block that starts past column 31000 holds no planned column: the planned logits there are the fill. -/
theorem at_eq_fill {r x j : Nat} (hr : r < 32) (hj : 2 ≤ j) : at_ (F := F) r (j * 25600 + x) = fill :=
  if_neg (by omega)

/-- Selecting by the kernel's test gives the planned logits of the block's place in the array. -/
theorem select_eq_at {r x j : Nat} (hr : r < 32) (hx : x < 25600) (hj : j < 4) :
    Scalar.select (IntOp.cmpi .eq (IntOp.addi (BitVec.ofNat 32 x) (IntOp.muli (BitVec.ofNat 32 j) 25600#32))
        (IntOp.muli (BitVec.ofNat 32 r) 1000#32)) (zeroAt (F := F)) fill = at_ r (j * 25600 + x) :=
  if_congr (planned_iff hr hx hj) rfl rfl

/-! ## Writing one value at a list of places -/

/-- A fold whose every step writes the SAME value `z` at the place the step names (or nowhere) leaves `z` at an index that
    some step names, and what was there before at every other index. The order of the steps plays no part. -/
theorem foldl_put_const {I α β : Type} [DecidableEq I] (place : β → Option I) (z : α) (step : (I → α) → β → I → α)
    (hstep : ∀ r n i, step r n i = if place n = some i then z else r i) (L : List β) (x : I → α) (i : I) :
    L.foldl step x i = if ∃ n ∈ L, place n = some i then z else x i := by
  induction L generalizing x with
  | nil => simp
  | cons n L ih =>
    rw [List.foldl_cons, ih, hstep]
    simp only [List.mem_cons, exists_eq_or_imp]
    by_cases hL : ∃ k ∈ L, place k = some i
    · rw [if_pos hL, if_pos (.inr hL)]
    · rw [if_neg hL]; simp only [hL, or_false]

/-- So a host scatter that overwrites, all of whose updates are the one value `z`: an element some update lands at is `z`,
    every other one is the operand's. -/
theorem scatter_const {s si u : Shape} {w : Nat} {α : Type} (d : ScatterDims s si u) (x : s.Idx → α) (idx : IVec si w)
    (upd : u.Idx → α) (z : α) (hz : upd = fun _ => z) (i : s.Idx) :
    Host.scatter d (fun _ b => b) x idx upd i = if ∃ j : u.Idx, d.resultIdx? j idx = some i then z else x i := by
  subst hz
  have e : (∃ n ∈ List.finRange u.numel, d.resultIdx? (u.rowMajor.symm n) idx = some i) ↔
      ∃ j : u.Idx, d.resultIdx? j idx = some i := by
    constructor
    · rintro ⟨n, -, h⟩; exact ⟨_, h⟩
    · rintro ⟨j, h⟩; exact ⟨u.rowMajor j, List.mem_finRange _, by rw [Equiv.symm_apply_apply]; exact h⟩
  unfold Host.scatter
  rw [foldl_put_const (fun n => d.resultIdx? (u.rowMajor.symm n) idx) z]
  · simp only [e]
  · intro r n i
    cases d.resultIdx? (u.rowMajor.symm n) idx with
    | none => simp
    | some k => simp only [Option.some.injEq, eq_comm]

/-- The updates' shape: one value for each row. -/
abbrev Rows : Shape := ⟨1, ![32]⟩

/-- The update's index for row `n`. -/
def row (n : Fin 32) : Rows.Idx := fun a => match a with | ⟨0, _⟩ => n

theorem row_surj (j : Rows.Idx) : ∃ n, j = row n :=
  ⟨j 0, funext fun a => match a with | ⟨0, _⟩ => rfl⟩

/-- A scatter of zeros into the fill, whose update for row `n` lands at row `n`, column `1000 * n` (`hpos`: start and
    window sum to that place on each axis), gives the planned logits. -/
theorem scatter_eq_logits {si : Shape} {w : Nat} (d : ScatterDims Logits si Rows) (idx : IVec si w)
    (x : FVec F Logits .f32) (upd : FVec F Rows .f32) (hx : x = fun _ => fill) (hupd : upd = fun _ => zeroAt)
    (hpos : ∀ n : Fin 32, d.start (row n) idx 0 + d.window (row n) 0 = (n.val : Int)
      ∧ d.start (row n) idx 1 + d.window (row n) 1 = (1000 * n.val : Int)) :
    Host.scatter d (fun _ b => b) x idx upd = logits := by
  funext i
  have hi : (i 0).val < 32 := (i 0).isLt
  have hiff : (∃ j : Rows.Idx, d.resultIdx? j idx = some i) ↔ (i 1).val = 1000 * (i 0).val := by
    constructor
    · rintro ⟨j, h⟩
      obtain ⟨n, rfl⟩ := row_surj j
      unfold ScatterDims.resultIdx? at h
      split at h
      · have h := Option.some.inj h
        have h0 : (d.start (row n) idx 0 + d.window (row n) 0).toNat = (i 0).val := congrArg (fun k => (k 0).val) h
        have h1 : (d.start (row n) idx 1 + d.window (row n) 1).toNat = (i 1).val := congrArg (fun k => (k 1).val) h
        have := hpos n
        omega
      · cases h
    · intro h
      obtain ⟨h0, h1⟩ := hpos ⟨(i 0).val, hi⟩
      dsimp only at h0 h1
      have h32 : Logits.size 0 = 32 := rfl
      have h100000 : Logits.size 1 = 100000 := rfl
      refine ⟨row ⟨(i 0).val, hi⟩, ?_⟩
      unfold ScatterDims.resultIdx?
      rw [dif_pos (Fin.forall_fin_two.mpr ⟨by omega, by omega⟩)]
      exact congrArg some (funext (Fin.forall_fin_two.mpr ⟨Fin.ext (by dsimp only; omega), Fin.ext (by dsimp only; omega)⟩))
  rw [scatter_const d x idx upd zeroAt hupd i, hx]
  unfold logits at_
  simp only [hiff]

end Cert.Plan

end
-- ==== Proof.Plan.Kernel.lean ====
/-
  The kernel as printed: what each grid point leaves in the result's staging buffer, the run of the whole grid, and so what
  the result array holds. Four points, one for each 25600 columns; the last block overhangs the array by 2400 columns, which
  are not written back.

  The kernel has no staged input, so what a point leaves depends on the point alone: the proof data below says it outright.
-/
module

public import proofs.«01_k».proof.Proof.Plan.Spec
public import proofs.«01_k».proof.Proof.Gen.Kernel.Frame.RunB
public import Idealize.ShloMosaic.Lib.Claim
public import Idealize.ShloMosaic.Lib.Pipeline.ValueKit.Geometry

@[expose] public section

noncomputable section

namespace Cert.Plan.OfKernel

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## One block -/

/-- The planned logits of block `j`: row `r` and column `x` of it are row `r` and column `25600 j + x` of the array. -/
def block (j : Nat) : Vec F S32x25600 .f32 := fun y => at_ (y 0).val (j * 25600 + (y 1).val)

theorem offsets : (![0, 0] : Fin 2 → Nat) = fun _ => 0 := funext fun a => by fin_cases a <;> rfl

/-- Grid point `t`'s one coordinate is `t`. -/
theorem coord : ∀ t : Fin cfg0.N, (grid0.coords t 0).val = t.val :=
  (by decide +kernel : ∀ t : Fin grid0.N, (grid0.coords t 0).val = t.val)

/-- The block of point `t` is block `(0, t)` of the array. -/
theorem index : ∀ t : Fin cfg0.N, win0_0.index t = ![0, t.val] :=
  (by decide +kernel : ∀ t : Fin grid0.N, win0_0.index t = ![0, t.val])

/-- The window is written at every point: one of the kernel's two branches is taken. -/
theorem live : ∀ t : Fin cfg0.N, cfg0.idle 0 (grid0.coords t) = false := by decide +kernel

/-- What the branch for the first blocks stores at point `t`: the planned logits of block `t`. -/
theorem diag_eq (t : Fin cfg0.N) : k0_pay2 (F := F) (grid0.coords t) = block t.val := by
  have ht : t.val < 4 := lt_of_lt_of_eq t.isLt N_0
  funext y
  have h0 : (y 0).val < 32 := (y 0).isLt
  have h1 : (y 1).val < 25600 := (y 1).isLt
  have e0 : iota .tc S32x25600 32 [0] iota_S32x25600_d0_w32 y = BitVec.ofNat 32 (y 0).val := by
    show BitVec.ofNat 32 (0 * 32 + (y 0).val) = _
    rw [Nat.zero_mul, Nat.zero_add]
  have e1 : iota .tc S32x25600 32 [1] iota_S32x25600_d1_w32 y = BitVec.ofNat 32 (y 1).val := by
    show BitVec.ofNat 32 (0 * 25600 + (y 1).val) = _
    rw [Nat.zero_mul, Nat.zero_add]
  refine Eq.trans ?_ (select_eq_at h0 h1 ht)
  rw [← coord t, ← e0, ← e1]
  rfl

/-- What the branch for the later blocks stores: the fill, which is what the planned logits are there. -/
theorem plain_eq (t : Fin cfg0.N) (h : 2 ≤ t.val) : k0_pay1 (F := F) = block t.val :=
  funext fun y => (at_eq_fill (y 0).isLt h).symm

/-- A staging buffer after the first branch's store, read back. -/
theorem read_diag (c : Dev nD) (t : Fin cfg0.N) (hc0 : ¬cond0_0 (grid0.coords t)) (hc1 : cond0_1 (grid0.coords t))
    (f : (ms0_0 t).view.ty.Contents (Elt F)) :
    (ms0_0 t).view.read (Elt F)
      ((ms0_0 t).view.writes (Elt F) f (kernelRun0_A c (grid0.coords t) (ms0_0 t) (hs0_0 t) hc0 hc1).1) = block t.val := by
  refine (View.read_writes_eq_canon _ _ _ (fun y => View.cover_of_tiledL _ S32x25600.size (by sl_kernel_rfl) y)).trans ?_
  unfold kernelRun0_A
  exact (View.canon_unit_zero offsets _ _).trans (diag_eq t)

/-- A staging buffer after the second branch's store, read back. -/
theorem read_plain (c : Dev nD) (t : Fin cfg0.N) (hc0 : cond0_0 (grid0.coords t)) (hc1 : ¬cond0_1 (grid0.coords t))
    (f : (ms0_0 t).view.ty.Contents (Elt F)) :
    (ms0_0 t).view.read (Elt F)
      ((ms0_0 t).view.writes (Elt F) f (kernelRun0_B c (grid0.coords t) (ms0_0 t) (hs0_0 t) hc0 hc1).1) = block t.val := by
  refine (View.read_writes_eq_canon _ _ _ (fun y => View.cover_of_tiledL _ S32x25600.size (by sl_kernel_rfl) y)).trans ?_
  unfold kernelRun0_B
  exact (View.canon_unit_zero offsets _ _).trans (plain_eq t ((hcond0_0 t).mp hc0))

/-! ## The body at a grid point, and the run -/

variable (m : (ℓ : Loc nD τ sig) → Buf (Elt F) ℓ) (ρ : Dev nD → PrngReg)

/-- The proof data of the pipeline: the array as launched, and after the body at point `t` block `t` of the planned logits in
    the staging buffer. -/
def data (_ : Fin 1) (c : Dev nD) : Dat τ (Elt F) Unit ℕ (UR sig nD τ) ℕ cfg0 c where
  A w := V m c (Pipeline.arrRef spec0 w)
  after w t := match w with
    | ⟨0, _⟩ => block t.val
  Φ _ := Pipeline.ΦA spec0 c
  q _ := fullShare
  owed _ := 0

theorem data_A (c : Dev nD) (w : Fin cfg0.W) : (data m 0 c).A w = V m c (Pipeline.arrRef spec0 w) := by
  dsimp only [data]

theorem data_after (c : Dev nD) (t : Fin cfg0.N) : (data m 0 c).after 0 t = block t.val := by dsimp only [data]

/-- The body at any point: from the staging buffer at anything to the staging buffer at the point's block. -/
theorem body (c : Dev nD) (t : Fin cfg0.N) :
    iprop((data m 0 c).Φ t.castSucc ∗ (data m 0 c).owesAt () t.castSucc
        ∗ (∃ d, owns (c : Thread nD τ) (ms0_0 t) fullShare ((data m 0 c).before 0 t d)))
      ⊢ wp frame (wpE (defs₀ (F := F)) Variants.none c none) Set.univ (bodyAt0 t) fun _ =>
        iprop((data m 0 c).Φ t.castSucc ∗ (data m 0 c).owesAt () t.castSucc ∗ (data m 0 c).leavesExact 0 t) := by
  rw [show (data m 0 c).leavesExact 0 t = owns (c : Thread nD τ) (ms0_0 t) fullShare (block t.val) from by
    unfold Dat.leavesExact; rw [live t, data_after]]
  unfold bodyAt0
  iintro ⟨HΦ, Ho, ⟨%d, H⟩⟩
  by_cases h : 2 ≤ t.val
  · have hc0 := (hcond0_0 t).mpr h
    have hc1 : ¬cond0_1 (grid0.coords t) := fun h1 => absurd ((hcond0_1 t).mp h1) (by omega)
    iapply ((kernelRun0_B c (grid0.coords t) _ (hs0_0 t) hc0 hc1).2 Set.univ _)
    isplitl [H]; · iexists _; iexact H
    iintro ⟨⟨%f, H⟩⟩
    isplitl [HΦ]; · iexact HΦ
    isplitl [Ho]; · iexact Ho
    unfold owns; iexists _; isplitr
    swap; · iexact H
    ipureintro; exact read_plain c t hc0 hc1 f
  · have hc0 : ¬cond0_0 (grid0.coords t) := fun h0 => h ((hcond0_0 t).mp h0)
    have hc1 := (hcond0_1 t).mpr (by omega)
    iapply ((kernelRun0_A c (grid0.coords t) _ (hs0_0 t) hc0 hc1).2 Set.univ _)
    isplitl [H]; · iexists _; iexact H
    iintro ⟨⟨%f, H⟩⟩
    isplitl [HΦ]; · iexact HΦ
    isplitl [Ho]; · iexact Ho
    unfold owns; iexists _; isplitr
    swap; · iexact H
    ipureintro; exact read_diag c t hc0 hc1 f

/-- The same as the obligation that the launch asks for, at every point. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

set_option backward.isDefEq.respectTransparency.types false in
/-- The launch: the arrays end at what the proof data says, and every semaphore counter at zero. -/
theorem launch : θ_run defs (onTc (τ := τ) (main (F := F))) (s₀ m ρ)
    (fun r => Pipeline.FramePost cfgs (data m) 0 (V m) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-! ## The claims' forms -/

/-- The result array after the run is the planned logits: the blocks cover it, and each is the planned logits' part. -/
theorem final (c : Dev nD) : (data m 0 c).arrAt 0 cfg0.N = (logits : FVec F S32x100000 .f32) := by
  refine (data m 0 c).arrAt_eq_of_covers 0 _ (by decide +kernel) fun t hf y => ?_
  rw [data_after]
  have e0 : ((win0_0.rect t).emb y 0 : Nat) = (y 0).val := by
    rw [win0_0.rect_emb_val t y 0, index t]; simp
  have e1 : ((win0_0.rect t).emb y 1 : Nat) = t.val * 25600 + (y 1).val := by
    rw [win0_0.rect_emb_val t y 1, index t]; rfl
  show at_ (y 0).val (t.val * 25600 + (y 1).val) = at_ ((win0_0.rect t).emb y 0).val ((win0_0.rect t).emb y 1).val
  rw [e0, e1]

/-- The run: the result array at the planned logits, the argument unchanged, the counters at zero. -/
theorem run : θ_run defs (onTc (τ := τ) (main (F := F))) ⟨m, fun _ => 0, ρ⟩ fun r => (∀ c : Dev nD,
      r.2.mem ((c : Thread nD τ).loc main_v0) = (logits : FVec F S32x100000 .f32)
      ∧ r.2.mem ((c : Thread nD τ).loc main_arg0) = m ((c : Thread nD τ).loc main_arg0))
      ∧ r.2.sem = fun _ => 0 :=
  (θ_run defs _ _).mono (fun _ h => ⟨fun c => ⟨((h.1 c).1 0).trans (final m c),
    ((h.1 c).2 main_arg0 (Pipeline.mem_restRefs_of main_arg0 (by decide) (by decide))).trans (V_main_arg0 m c)⟩, h.2⟩)
    (launch m ρ)

end Cert.Plan.OfKernel

end
-- ==== Proof.Plan.Reference.lean ====
/-
  The reference as printed: its scatter's indices, and so what its result array holds.
-/
module

public import proofs.«01_k».proof.Proof.Plan.Spec
public import proofs.«01_k».proof.Proof.Gen.Reference.Run
public import Idealize.ShloMosaic.Lib.Quiescent

@[expose] public section

noncomputable section

namespace Cert.Plan.OfReference

open Cert.Reference Cert.Reference.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The rows of the scatter, as the program forms them: `0 … 31`, a negative one moved up by 32 (there is none). -/
abbrev rowIdx : IVec S32 32 :=
  select (cmpi .slt (iotaInDim S32 32 0) (broadcastInDim S32 ![] bcast_S_S32 (constantI S_ 32 0#32)))
    (addi (iotaInDim S32 32 0) (broadcastInDim S32 ![] bcast_S_S32 (constantI S_ 32 32#32))) (iotaInDim S32 32 0)

/-- The columns: the plan's table, a negative one moved up by 100000 (there is none). -/
abbrev colIdx : IVec S32 32 :=
  select (cmpi .slt (fun i => lit0 (S32.rowMajor i)) (broadcastInDim S32 ![] bcast_S_S32 (constantI S_ 32 0#32)))
    (addi (fun i => lit0 (S32.rowMajor i)) (broadcastInDim S32 ![] bcast_S_S32 (constantI S_ 32 100000#32)))
    (fun i => lit0 (S32.rowMajor i))

/-- The pairs (row, column) that the scatter reads. -/
abbrev pairs : IVec S32x2 32 :=
  concatenate S32x2 1 [⟨S32x1, broadcastInDim S32x1 ![0] bcast_S32_S32x1_0 rowIdx⟩,
    ⟨S32x1, broadcastInDim S32x1 ![0] bcast_S32_S32x1_0 colIdx⟩] concatenates_S32x1_S32x1_S32x2_d1

/-- Update `n` lands at row `n`, column `1000 n`: decided over the 32 updates. -/
theorem lands : ∀ n : Fin 32,
    scatter_S32x100000_S32x2_S32_n_01_01_1.start (row n) pairs 0 + scatter_S32x100000_S32x2_S32_n_01_01_1.window (row n) 0 = (n.val : Int)
    ∧ scatter_S32x100000_S32x2_S32_n_01_01_1.start (row n) pairs 1 + scatter_S32x100000_S32x2_S32_n_01_01_1.window (row n) 1 = (1000 * n.val : Int) := by
  decide +kernel

/-- The run: the result array at the planned logits, the argument unchanged, the counters at zero (there are none). -/
theorem run : θ_run defs (onTc (τ := τ) (main (F := F))) ⟨m, fun _ => 0, ρ⟩ fun r => (∀ c : Dev nD,
      r.2.mem ((c : Thread nD τ).loc main_v16) = (logits : FVec F S32x100000 .f32)
      ∧ r.2.mem ((c : Thread nD τ).loc main_arg0) = m ((c : Thread nD τ).loc main_arg0))
      ∧ r.2.sem = fun _ => 0 :=
  (θ_run defs _ _).mono (fun r h => ⟨fun c =>
      ⟨(h c).1.trans (scatter_eq_logits scatter_S32x100000_S32x2_S32_n_01_01_1 pairs _ _ rfl rfl lands), (h c).2⟩,
      sem_eq_zero_of_no_sems (by decide) r.2⟩)
    (Value.run m ρ)

end Cert.Plan.OfReference

end
-- ==== Proof.Plan.Ideal.lean ====
/-
  The idealized programs. No operation was replaced in either, so each is the printed program's text again, and what was
  proved of the one, for any reading of the floats, is what is to be proved of the other.
-/
module

public import proofs.«01_k».proof.Proof.Plan.Kernel
public import proofs.«01_k».proof.Proof.Plan.Reference
public import proofs.«01_k».proof.Proof.Gen.KernelIdeal
public import proofs.«01_k».proof.Proof.Gen.ReferenceIdeal

@[expose] public section

noncomputable section

namespace Cert.Plan.OfIdeal

open Idealize.ShloMosaic Idealize.ShloMosaic.TcCoe Idealize.SL.Sem

variable {F : FTy → Type} [FloatOps F]

section
open Cert.KernelIdeal Cert.KernelIdeal.Gen

/-- The idealized kernel's run. -/
theorem kernel (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_v0) = (logits : FVec F S32x100000 .f32)
      ∧ r.2.mem ((c : Thread nD τ).loc main_arg0) = m ((c : Thread nD τ).loc main_arg0))
      ∧ r.2.sem = fun _ => 0 :=
  cast (by sl_kernel_rfl) (OfKernel.run (F := F) m ρ)
end

section
open Cert.ReferenceIdeal Cert.ReferenceIdeal.Gen

/-- The idealized reference's run. -/
theorem reference (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_v16) = (logits : FVec F S32x100000 .f32)
      ∧ r.2.mem ((c : Thread nD τ).loc main_arg0) = m ((c : Thread nD τ).loc main_arg0))
      ∧ r.2.sem = fun _ => 0 :=
  OfReference.run (F := F) m ρ
end

end Cert.Plan.OfIdeal

end
-- ==== Proof.lean ====
/-
  The certificate: the four programs run, leave their argument as it was and every semaphore counter at zero; and kernel and
  reference both end with the planned logits (`Cert.Plan.logits`), as words and over the extended reals.
-/
module

public import proofs.«01_k».proof.Defs
public import proofs.«01_k».proof.Proof.Plan.Ideal

@[expose] public section

noncomputable section

namespace Cert.Proof

open Idealize.ShloMosaic Idealize.SL.Sem Cert.Plan

/-- The kernel's words are the reference's. -/
theorem words : Cert.bitexact_Kernel_Reference := fun m g m' g' _ _ =>
  ⟨fun _ => (logits : FVec Bits Logits .f32), (θ_run _ _ _).mono (fun _ h => h.1) (OfKernel.run m g),
    (θ_run _ _ _).mono (fun _ h => h.1) (OfReference.run m' g')⟩

/-- Over the extended reals the kernel's result is the reference's. -/
theorem reals : Cert.algebraic_KernelIdeal_ReferenceIdeal := fun m g m' g' _ _ =>
  ⟨fun _ => (logits : FVec Ideal Logits .f32), (θ_run _ _ _).mono (fun _ h => h.1) (OfIdeal.kernel m g),
    (θ_run _ _ _).mono (fun _ h => h.1) (OfIdeal.reference m' g')⟩

/-- All the claims: the frames are the runs with the results' values forgotten. -/
theorem claim : Cert.Claim :=
  ⟨Cert.Kernel.Gen.facts, Cert.KernelIdeal.Gen.facts, Cert.Reference.Gen.facts, Cert.ReferenceIdeal.Gen.facts,
    fun m g _ => (θ_run _ _ _).mono (fun _ h => ⟨fun c => (h.1 c).2, h.2⟩) (OfKernel.run m g),
    fun m g _ => (θ_run _ _ _).mono (fun _ h => ⟨fun c => (h.1 c).2, h.2⟩) (OfIdeal.kernel m g),
    fun m g _ => (θ_run _ _ _).mono (fun _ h => ⟨fun c => (h.1 c).2, h.2⟩) (OfReference.run m g),
    fun m g _ => (θ_run _ _ _).mono (fun _ h => ⟨fun c => (h.1 c).2, h.2⟩) (OfIdeal.reference m g),
    trivial, reals, words⟩

end Cert.Proof

end
